-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_curves_and_general [hPre_finite_curves_and_general : Cert.Pre_finite_curves_and_general.Facts] (m : (ℓ : Loc Cert.KernelIdeal.nD Cert.KernelIdeal.τ Cert.KernelIdeal.sig) → Buf (Elt Ideal) ℓ) : Prop :=
  ∀ c : Dev Cert.KernelIdeal.nD,
    (Cert.Pre_finite_curves_and_general.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_curves_and_general [hPre_finite_curves_and_general : Cert.Pre_finite_curves_and_general.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_curves_and_general.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_curves_and_general [hKernelIdeal : Cert.KernelIdeal.Facts] [hPre_finite_curves_and_general : Cert.Pre_finite_curves_and_general.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_curves_and_general m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_curves_and_general [hReferenceIdeal : Cert.ReferenceIdeal.Facts] [hPre_finite_curves_and_general : Cert.Pre_finite_curves_and_general.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_curves_and_general m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_curves_and_general [hKernelIdeal : Cert.KernelIdeal.Facts] [hReferenceIdeal : Cert.ReferenceIdeal.Facts] [hPre_finite_curves_and_general : Cert.Pre_finite_curves_and_general.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_curves_and_general m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_cst_1)) (v2 : (c : Dev Cert.KernelIdeal.nD) → Buf (Elt Ideal) ((c.tc : Thread Cert.KernelIdeal.nD Cert.KernelIdeal.τ).loc Cert.KernelIdeal.main_cst_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_cst_1) = v1 c
          ∧ r.2.mem ((c.tc : Thread Cert.KernelIdeal.nD Cert.KernelIdeal.τ).loc Cert.KernelIdeal.main_cst_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_cst_6) = v1 c
          ∧ r.2.mem ((c.tc : Thread Cert.ReferenceIdeal.nD Cert.ReferenceIdeal.τ).loc Cert.ReferenceIdeal.main_cst_7) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_curves_and_general : Cert.Pre_finite_curves_and_general.Facts),
    quiescent_Kernel (hKernel := hKernel)
    ∧ quiescent_KernelIdeal (hKernelIdeal := hKernelIdeal)
    ∧ quiescent_KernelIdeal_pre_finite_curves_and_general (hKernelIdeal := hKernelIdeal) (hPre_finite_curves_and_general := hPre_finite_curves_and_general)
    ∧ quiescent_ReferenceIdeal (hReferenceIdeal := hReferenceIdeal)
    ∧ quiescent_ReferenceIdeal_pre_finite_curves_and_general (hReferenceIdeal := hReferenceIdeal) (hPre_finite_curves_and_general := hPre_finite_curves_and_general)
    ∧ preserves_Kernel_KernelIdeal
    ∧ algebraic_KernelIdeal_ReferenceIdeal_pre_finite_curves_and_general (hKernelIdeal := hKernelIdeal) (hReferenceIdeal := hReferenceIdeal) (hPre_finite_curves_and_general := hPre_finite_curves_and_general)
-- ==== Pre_finite_curves_and_general.lean ====
abbrev S32x64x3x512 : Shape := ⟨4, ![32, 64, 3, 512]⟩
abbrev S32x8 : Shape := ⟨2, ![32, 8]⟩
abbrev S8x1536x1024 : Shape := ⟨3, ![8, 1536, 1024]⟩
abbrev S8x1024 : Shape := ⟨2, ![8, 1024]⟩
abbrev S2x1536x1024 : Shape := ⟨3, ![2, 1536, 1024]⟩
abbrev S2x1024 : Shape := ⟨2, ![2, 1024]⟩
abbrev S_ : Shape := ⟨0, ![]⟩

class Facts : Prop where
  bcast_S_S32x64x3x512 : S_.BroadcastsInDim S32x64x3x512 (![] : Fin 0 → Fin S32x64x3x512.rank)
  reducesTo_S32x64x3x512_S_d0_1_2_3 : S32x64x3x512.ReducesTo [0, 1, 2, 3] S_
  h_S_ : 0 < S_.numel
  bcast_S_S2x1536x1024 : S_.BroadcastsInDim S2x1536x1024 (![] : Fin 0 → Fin S2x1536x1024.rank)
  reducesTo_S2x1536x1024_S_d0_1_2 : S2x1536x1024.ReducesTo [0, 1, 2] S_

variable [Facts]

def fn {F : FTy → Type} [FloatOps F] (main_arg0 : FVec F S32x64x3x512 .f32) (main_arg1 : FVec F S32x8 .f32) (main_arg2 : IVec S32x8 32) (main_arg3 : FVec F S8x1536x1024 .f32) (main_arg4 : FVec F S8x1024 .f32) (main_arg5 : FVec F S2x1536x1024 .f32) (main_arg6 : FVec F S2x1024 .f32) : IVec S_ 1 :=
  let main_v0 : FVec F S32x64x3x512 .f32 := Host.absf main_arg0
  let main_cst : FVec F S_ .f32 := constant S_ .f32 0x7F800000#32
  let main_v1 : FVec F S32x64x3x512 .f32 := broadcastInDim S32x64x3x512 ![] bcast_S_S32x64x3x512 main_cst
  let main_v2 : IVec S32x64x3x512 1 := cmpf .olt main_v0 main_v1
  let main_c : IVec S_ 1 := constantI S_ 1 1#1
  let main_v3 : IVec S_ 1 := (fun x v => Host.reduce IntOp.andi x v reducesTo_S32x64x3x512_S_d0_1_2_3 h_S_) main_v2 main_c
  let main_v4 : FVec F S2x1536x1024 .f32 := Host.absf main_arg5
  let main_cst_0 : FVec F S_ .f32 := constant S_ .f32 0x7F800000#32
  let main_v5 : FVec F S2x1536x1024 .f32 := broadcastInDim S2x1536x1024 ![] bcast_S_S2x1536x1024 main_cst_0
  let main_v6 : IVec S2x1536x1024 1 := cmpf .olt main_v4 main_v5
  let main_c_1 : IVec S_ 1 := constantI S_ 1 1#1
  let main_v7 : IVec S_ 1 := (fun x v => Host.reduce IntOp.andi x v reducesTo_S2x1536x1024_S_d0_1_2 h_S_) main_v6 main_c_1
  let main_v8 : IVec S_ 1 := andi main_v3 main_v7
  main_v8
-- ==== Kernel.lean ====
abbrev S32x64x3x512 : Shape := ⟨4, ![32, 64, 3, 512]⟩
abbrev S32x8 : Shape := ⟨2, ![32, 8]⟩
abbrev S8x1536x1024 : Shape := ⟨3, ![8, 1536, 1024]⟩
abbrev S8x1024 : Shape := ⟨2, ![8, 1024]⟩
abbrev S2x1536x1024 : Shape := ⟨3, ![2, 1536, 1024]⟩
abbrev S2x1024 : Shape := ⟨2, ![2, 1024]⟩
abbrev S2048x1536 : Shape := ⟨2, ![2048, 1536]⟩
abbrev S_ : Shape := ⟨0, ![]⟩
abbrev S16x1024 : Shape := ⟨2, ![16, 1024]⟩
abbrev S1 : Shape := ⟨1, ![1]⟩
abbrev S2048x1024 : Shape := ⟨2, ![2048, 1024]⟩
abbrev S1x1536x512 : Shape := ⟨3, ![1, 1536, 512]⟩
abbrev S2x1536x512 : Shape := ⟨3, ![2, 1536, 512]⟩
abbrev S16x512 : Shape := ⟨2, ![16, 512]⟩
abbrev S2048x512 : Shape := ⟨2, ![2048, 512]⟩
abbrev S2048x16 : Shape := ⟨2, ![2048, 16]⟩
abbrev S32 : Shape := ⟨1, ![32]⟩
abbrev S32x1 : Shape := ⟨2, ![32, 1]⟩
abbrev S32x1x8 : Shape := ⟨3, ![32, 1, 8]⟩
abbrev S32x64x8 : Shape := ⟨3, ![32, 64, 8]⟩
abbrev S2048x8 : Shape := ⟨2, ![2048, 8]⟩
abbrev S2048x2 : Shape := ⟨2, ![2048, 2]⟩
abbrev S2048x6 : Shape := ⟨2, ![2048, 6]⟩
abbrev S1536x512 : Shape := ⟨2, ![1536, 512]⟩
abbrev S2048 : Shape := ⟨1, ![2048]⟩
abbrev S2048x1 : Shape := ⟨2, ![2048, 1]⟩
abbrev S32x64x1024 : Shape := ⟨3, ![32, 64, 1024]⟩

abbrev nBuf : Space → Nat
  | .hbm => 20
  | .vmem => 14
  | .smem => 0
  | _ => 0

abbrev bufTy : (tb : Table) → Fin (tcTables nBuf tb) → BufTy
  | .hbm, ⟨0, _⟩ => ⟨S32x64x3x512, .f32⟩
  | .hbm, ⟨1, _⟩ => ⟨S32x8, .f32⟩
  | .hbm, ⟨2, _⟩ => ⟨S32x8, .i32⟩
  | .hbm, ⟨3, _⟩ => ⟨S8x1536x1024, .f32⟩
  | .hbm, ⟨4, _⟩ => ⟨S8x1024, .f32⟩
  | .hbm, ⟨5, _⟩ => ⟨S2x1536x1024, .f32⟩
  | .hbm, ⟨6, _⟩ => ⟨S2x1024, .f32⟩
  | .hbm, ⟨7, _⟩ => ⟨S2048x1536, .f32⟩
  | .hbm, ⟨8, _⟩ => ⟨S_, .f32⟩
  | .hbm, ⟨9, _⟩ => ⟨S16x1024, .f32⟩
  | .hbm, ⟨10, _⟩ => ⟨S_, .i32⟩
  | .hbm, ⟨11, _⟩ => ⟨S1, .i32⟩
  | .hbm, ⟨12, _⟩ => ⟨S16x1024, .f32⟩
  | .hbm, ⟨13, _⟩ => ⟨S_, .i32⟩
  | .hbm, ⟨14, _⟩ => ⟨S1, .i32⟩
  | .hbm, ⟨15, _⟩ => ⟨S16x1024, .f32⟩
  | .hbm, ⟨16, _⟩ => ⟨S2048x1024, .f32⟩
  | .hbm, ⟨17, _⟩ => ⟨S32x64x1024, .f32⟩
  | .hbm, ⟨18, _⟩ => ⟨S_, .f32⟩
  | .hbm, ⟨19, _⟩ => ⟨S_, .f32⟩
  | .local _ .vmem, ⟨0, _⟩ => ⟨S32x8, .f32⟩
  | .local _ .vmem, ⟨1, _⟩ => ⟨S32x8, .i32⟩
  | .local _ .vmem, ⟨2, _⟩ => ⟨S2048x1536, .f32⟩
  | .local _ .vmem, ⟨3, _⟩ => ⟨S1x1536x512, .f32⟩
  | .local _ .vmem, ⟨4, _⟩ => ⟨S1x1536x512, .f32⟩
  | .local _ .vmem, ⟨5, _⟩ => ⟨S2x1536x512, .f32⟩
  | .local _ .vmem, ⟨6, _⟩ => ⟨S2x1536x512, .f32⟩
  | .local _ .vmem, ⟨7, _⟩ => ⟨S16x512, .f32⟩
  | .local _ .vmem, ⟨8, _⟩ => ⟨S16x512, .f32⟩
  | .local _ .vmem, ⟨9, _⟩ => ⟨S2048x512, .f32⟩
  | .local _ .vmem, ⟨10, _⟩ => ⟨S2048x512, .f32⟩
  | .local _ .vmem, ⟨11, _⟩ => ⟨S2048x1536, .bf16⟩
  | .local _ .vmem, ⟨12, _⟩ => ⟨S2048x16, .f32⟩
  | .local _ .vmem, ⟨13, _⟩ => ⟨S2048x512, .bf16⟩
  | _, _ => ⟨S32x64x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_cst_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 9], ![false, false]⟩

def k0_cond5 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S32x64x3x512 : Shape := ⟨4, ![32, 64, 3, 512]⟩
abbrev S32x8 : Shape := ⟨2, ![32, 8]⟩
abbrev S8x1536x1024 : Shape := ⟨3, ![8, 1536, 1024]⟩
abbrev S8x1024 : Shape := ⟨2, ![8, 1024]⟩
abbrev S2x1536x1024 : Shape := ⟨3, ![2, 1536, 1024]⟩
abbrev S2x1024 : Shape := ⟨2, ![2, 1024]⟩
abbrev S_ : Shape := ⟨0, ![]⟩
abbrev S32 : Shape := ⟨1, ![32]⟩
abbrev S32x1 : Shape := ⟨2, ![32, 1]⟩
abbrev S32x64x1536 : Shape := ⟨3, ![32, 64, 1536]⟩
abbrev S8x1024x32x64 : Shape := ⟨4, ![8, 1024, 32, 64]⟩
abbrev S8x32x64x1024 : Shape := ⟨4, ![8, 32, 64, 1024]⟩
abbrev S8x1x1x1024 : Shape := ⟨4, ![8, 1, 1, 1024]⟩
abbrev S32x64x1024 : Shape := ⟨3, ![32, 64, 1024]⟩
abbrev S2x1024x32x64 : Shape := ⟨4, ![2, 1024, 32, 64]⟩
abbrev S2x32x64x1024 : Shape := ⟨4, ![2, 32, 64, 1024]⟩
abbrev S2x1x1x1024 : Shape := ⟨4, ![2, 1, 1, 1024]⟩
abbrev S1x32x64x1024 : Shape := ⟨4, ![1, 32, 64, 1024]⟩

abbrev nBuf : Space → Nat
  | .hbm => 60
  | .vmem => 0
  | .smem => 0
  | _ => 0

abbrev bufTy : (tb : Table) → Fin (tcTables nBuf tb) → BufTy
  | .hbm, ⟨0, _⟩ => ⟨S32x64x3x512, .f32⟩
  | .hbm, ⟨1, _⟩ => ⟨S32x8, .f32⟩
  | .hbm, ⟨2, _⟩ => ⟨S32x8, .i32⟩
  | .hbm, ⟨3, _⟩ => ⟨S8x1536x1024, .f32⟩
  | .hbm, ⟨4, _⟩ => ⟨S8x1024, .f32⟩
  | .hbm, ⟨5, _⟩ => ⟨S2x1536x1024, .f32⟩
  | .hbm, ⟨6, _⟩ => ⟨S2x1024, .f32⟩
  | .hbm, ⟨7, _⟩ => ⟨S_, .i32⟩
  | .hbm, ⟨8, _⟩ => ⟨S32x8, .i32⟩
  | .hbm, ⟨9, _⟩ => ⟨S32x8, .i1⟩
  | .hbm, ⟨10, _⟩ => ⟨S_, .f32⟩
  | .hbm, ⟨11, _⟩ => ⟨S32x8, .f32⟩
  | .hbm, ⟨12, _⟩ => ⟨S_, .f32⟩
  | .hbm, ⟨13, _⟩ => ⟨S32x8, .f32⟩
  | .hbm, ⟨14, _⟩ => ⟨S32x8, .f32⟩
  | .hbm, ⟨15, _⟩ => ⟨S_, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S32x1, .f32⟩
  | .hbm, ⟨21, _⟩ => ⟨S32x8, .f32⟩
  | .hbm, ⟨22, _⟩ => ⟨S32x8, .f32⟩
  | .hbm, ⟨23, _⟩ => ⟨S32x8, .f32⟩
  | .hbm, ⟨24, _⟩ => ⟨S_, .f32⟩
  | .hbm, ⟨25, _⟩ => ⟨S32, .f32⟩
  | .hbm, ⟨26, _⟩ => ⟨S32x1, .f32⟩
  | .hbm, ⟨27, _⟩ => ⟨S32x8, .f32⟩
  | .hbm, ⟨28, _⟩ => ⟨S32x8, .f32⟩
  | .hbm, ⟨29, _⟩ => ⟨S32x8, .f32⟩
  | .hbm, ⟨30, _⟩ => ⟨S_, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S32x1, .f32⟩
  | .hbm, ⟨36, _⟩ => ⟨S32x8, .f32⟩
  | .hbm, ⟨37, _⟩ => ⟨S32x8, .f32⟩
  | .hbm, ⟨38, _⟩ => ⟨S32x64x1536, .f32⟩
  | .hbm, ⟨39, _⟩ => ⟨S8x1024x32x64, .f32⟩
  | .hbm, ⟨40, _⟩ => ⟨S8x32x64x1024, .f32⟩
  | .hbm, ⟨41, _⟩ => ⟨S8x1x1x1024, .f32⟩
  | .hbm, ⟨42, _⟩ => ⟨S8x32x64x1024, .f32⟩
  | .hbm, ⟨43, _⟩ => ⟨S8x32x64x1024, .f32⟩
  | .hbm, ⟨44, _⟩ => ⟨S32x64x1024, .f32⟩
  | .hbm, ⟨45, _⟩ => ⟨S32x64x1024, .bf16⟩
  | .hbm, ⟨46, _⟩ => ⟨S2x1024x32x64, .f32⟩
  | .hbm, ⟨47, _⟩ => ⟨S2x32x64x1024, .f32⟩
  | .hbm, ⟨48, _⟩ => ⟨S2x1x1x1024, .f32⟩
  | .hbm, ⟨49, _⟩ => ⟨S2x32x64x1024, .f32⟩
  | .hbm, ⟨50, _⟩ => ⟨S2x32x64x1024, .f32⟩
  | .hbm, ⟨51, _⟩ => ⟨S1x32x64x1024, .f32⟩
  | .hbm, ⟨52, _⟩ => ⟨S32x64x1024, .f32⟩
  | .hbm, ⟨53, _⟩ => ⟨S32x64x1024, .f32⟩
  | .hbm, ⟨54, _⟩ => ⟨S32x64x1024, .f32⟩
  | .hbm, ⟨55, _⟩ => ⟨S1x32x64x1024, .f32⟩
  | .hbm, ⟨56, _⟩ => ⟨S32x64x1024, .f32⟩
  | .hbm, ⟨57, _⟩ => ⟨S32x64x1024, .f32⟩
  | .hbm, ⟨58, _⟩ => ⟨S_, .f32⟩
  | .hbm, ⟨59, _⟩ => ⟨S_, .f32⟩
  | _, _ => ⟨S32x64x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_cst_7 : Ref sig .tc := ⟨.hbm, 59, rfl⟩

abbrev nD : Nat := 1
abbrev τ : Topo := Topo.v7x

variable {F : FTy → Type} [FloatOps F]
-- ==== Proof.Moe.Gate.lean ====
/- The gate of the mixture: the masked softmax of one row of eight logits, renormalised over the
   chosen experts, as a function of the extended reals; and that it is a nonnegative real number
   whatever the logits and the masks are. -/
module

public import Idealize.ShloMosaic.Lib.Pointwise

@[expose] public section

set_option maxRecDepth 16384

noncomputable section

open Idealize.ShloMosaic
open scoped BigOperators

namespace Cert.Moe

/-- The value both programs subtract from a row of logits: its largest entry. -/
def rowMax (l : Fin 8 → EReal) : EReal :=
  max (Ideal.ofBits FTy.f32 0xFF800000#32) (Finset.univ.fold max (Ideal.ofBits FTy.f32 0xFF800000#32) l)

/-- One entry of the softmax of a row of logits. -/
def soft (l : Fin 8 → EReal) (e : Fin 8) : EReal :=
  Ideal.div (Ideal.exp (l e - rowMax l)) (∑ x, Ideal.exp (l x - rowMax l))

/-- The softmax entry where the mask is one, zero elsewhere. -/
def pick (l : Fin 8 → EReal) (k : Fin 8 → BitVec 32) (e : Fin 8) : EReal :=
  Scalar.select (IntOp.cmpi CmpIPredicate.eq (k e) 1#32) (soft l e) 0

/-- The gate of expert `e`: its masked softmax entry divided by their sum and the small constant. -/
def gate (l : Fin 8 → EReal) (k : Fin 8 → BitVec 32) (e : Fin 8) : EReal :=
  Ideal.div (pick l k e) (∑ x, pick l k x + Ideal.ofBits FTy.f32 0x3089705F#32)

/-- Every logit is at most the row's largest entry. -/
theorem le_rowMax (l : Fin 8 → EReal) (e : Fin 8) : l e ≤ rowMax l :=
  le_max_of_le_right ((Finset.le_fold_max (l e)).2 (.inr ⟨e, Finset.mem_univ e, le_rfl⟩))

/-- The exponential of a nonpositive extended real is a nonnegative real number. -/
theorem exp_real {x : EReal} (h : x ≤ 0) : ∃ r : ℝ, 0 ≤ r ∧ Ideal.exp x = (r : EReal) := by
  induction x with
  | bot => exact ⟨0, le_rfl, rfl⟩
  | coe r => exact ⟨Real.exp r, (Real.exp_pos r).le, rfl⟩
  | top => exact absurd h (by simp)

/-- The small constant added to the divisor is a positive real number. -/
theorem eps_real : ∃ r : ℝ, 0 < r ∧ Ideal.ofBits FTy.f32 0x3089705F#32 = (r : EReal) := by
  refine ⟨_, ?_, by simp [Ideal.ofBits, Ideal.ieee, -EReal.coe_mul]; rfl⟩
  norm_num

/-- Dividing a nonnegative real by a positive real gives a nonnegative real. -/
theorem div_real {a b : ℝ} (ha : 0 ≤ a) (hb : 0 < b) : ∃ r : ℝ, 0 ≤ r ∧ Ideal.div (a : EReal) (b : EReal) = (r : EReal) := by
  refine ⟨a * b⁻¹, by positivity, ?_⟩
  rw [Ideal.div, if_neg (by exact_mod_cast hb.ne'), ← EReal.coe_inv, ← EReal.coe_mul]

/-- A finite sum of nonnegative reals is the nonnegative real sum. -/
theorem sum_real (f : Fin 8 → EReal) (hf : ∀ e, ∃ r : ℝ, 0 ≤ r ∧ f e = (r : EReal)) :
    ∃ r : Fin 8 → ℝ, (∀ e, 0 ≤ r e ∧ f e = (r e : EReal)) ∧ ∑ e, f e = ((∑ e, r e : ℝ) : EReal) := by
  choose r hr using hf
  refine ⟨r, hr, ?_⟩
  rw [Finset.sum_congr rfl fun e _ => (hr e).2]
  exact (map_sum (⟨⟨fun x : ℝ => (x : EReal), EReal.coe_zero⟩, EReal.coe_add⟩ : ℝ →+ EReal) r Finset.univ).symm

/-- A finite sum with a term at minus infinity is minus infinity. -/
theorem sum_bot (f : Fin 8 → EReal) (e : Fin 8) (h : f e = ⊥) : ∑ x, f x = ⊥ := by
  rw [← Finset.add_sum_erase _ _ (Finset.mem_univ e), h, EReal.bot_add]

/-- A masked softmax entry is the entry or zero. -/
theorem pick_cases (l : Fin 8 → EReal) (k : Fin 8 → BitVec 32) (e : Fin 8) : pick l k e = soft l e ∨ pick l k e = 0 := by
  unfold pick Scalar.select
  split
  · exact .inl rfl
  · exact .inr rfl

/-- The gate is a nonnegative real number, for any logits and masks. -/
theorem gate_real (l : Fin 8 → EReal) (k : Fin 8 → BitVec 32) (e : Fin 8) : ∃ r : ℝ, 0 ≤ r ∧ gate l k e = (r : EReal) := by
  obtain ⟨ε, hε, hε'⟩ := eps_real
  obtain ⟨x, hx, hS⟩ := sum_real (fun e => Ideal.exp (l e - rowMax l)) fun e =>
    exp_real (EReal.sub_nonpos.2 (le_rowMax l e))
  have hS0 : 0 ≤ ∑ e, x e := Finset.sum_nonneg fun e _ => (hx e).1
  rcases hS0.eq_or_lt with h0 | hpos
  · -- every exponential is zero: each softmax entry is minus infinity
    have hsoft : ∀ e, soft l e = ⊥ := fun e => by
      have hxe : x e = 0 := (Finset.sum_eq_zero_iff_of_nonneg fun e _ => (hx e).1).1 h0.symm e (Finset.mem_univ e)
      rw [soft, hS, ← h0, (hx e).2, hxe, Ideal.div, if_pos (by simp), if_neg (by simp)]
    by_cases hb : ∃ a, pick l k a = ⊥
    · obtain ⟨a, ha⟩ := hb
      refine ⟨0, le_rfl, ?_⟩
      rw [gate, sum_bot _ a ha, EReal.bot_add, Ideal.div, if_neg (by simp), EReal.inv_bot, mul_zero]; rfl
    · have hz : ∀ a, pick l k a = 0 := fun a =>
        (pick_cases l k a).resolve_left fun h => hb ⟨a, h.trans (hsoft a)⟩
      rw [gate, Finset.sum_congr rfl fun a _ => hz a, hz e, Finset.sum_const_zero, zero_add, hε']
      exact div_real le_rfl hε
  · have hsoft : ∀ e, ∃ r : ℝ, 0 ≤ r ∧ soft l e = (r : EReal) := fun e => by
      rw [soft, hS, (hx e).2]; exact div_real (hx e).1 hpos
    have hpick : ∀ e, ∃ r : ℝ, 0 ≤ r ∧ pick l k e = (r : EReal) := fun e => by
      rcases pick_cases l k e with h | h
      · rw [h]; exact hsoft e
      · exact ⟨0, le_rfl, h⟩
    obtain ⟨p, hp, hP⟩ := sum_real _ hpick
    rw [gate, hP, (hp e).2, hε', ← EReal.coe_add]
    exact div_real (hp e).1 (add_pos_of_nonneg_of_pos (Finset.sum_nonneg fun e _ => (hp e).1) hε)

end Cert.Moe

end
-- ==== Proof.Moe.Bias.lean ====
module

public import proofs.«01_k».proof.Proof.Gen.KernelIdeal.Frame
public import proofs.«01_k».proof.Proof.Moe.Gate
public import Idealize.ShloMosaic.Lib.Claim
public import Idealize.ShloMosaic.Lib.Pointwise
public import Idealize.ShloMosaic.Lib.StableHlo.Run
public import Idealize.ShloMosaic.Lib.Routing.OpsPair
public import Idealize.ShloMosaic.Lib.Routing.OpsSet

/-!
# The table of biases

The host lays the eight expert biases and the two general ones, zeros below them, into one table of sixteen rows by
two scatters of whole rows. This module reads an entry of that table.
-/

@[expose] public section
set_option maxRecDepth 16384
noncomputable section
open Idealize.ShloMosaic Idealize.ShloMosaic.TcCoe Idealize.SL.Sem
open Idealize.ShloMosaic.Routing

namespace Cert.Moe

/-- Rows written at a start row: update element `(a, x)` goes to element `(k + a, x)`, where `k` is the start row. -/
theorem lands_rows {R A C : Nat} (d : ScatterDims (shape2 R C) (shape1 1) (shape2 A C)) (hu : d.updateWindowDims = [0, 1])
    (hi : d.insertedWindowDims = []) (hs : d.scatterDimsToOperandDims = [0]) (idx : IVec (shape1 1) 32) (k : Int)
    (hk : ∀ z, (idx z).toInt = k) (a : Fin A) (x y : Fin C) (r : Fin R) :
    d.resultIdx? (ix2 a x) idx = some (ix2 r y) ↔ k + a.val = r.val ∧ x = y := by
  obtain ⟨u, i, s, v, wf⟩ := d
  simp only at hu hi hs
  subst hu hi hs
  have h0 : ScatterDims.start (⟨[0, 1], [], [0], v, wf⟩ : ScatterDims (shape2 R C) (shape1 1) (shape2 A C)) (ix2 a x) idx 0 = k := by
    unfold ScatterDims.start
    rw [dif_pos (List.mem_singleton.2 rfl)]
    exact hk _
  have h1 : ScatterDims.start (⟨[0, 1], [], [0], v, wf⟩ : ScatterDims (shape2 R C) (shape1 1) (shape2 A C)) (ix2 a x) idx 1 = 0 := by
    unfold ScatterDims.start
    exact dif_neg (by show (1 : Fin 2) ∉ ([0] : List (Fin 2)); decide)
  have w0 : ScatterDims.window (⟨[0, 1], [], [0], v, wf⟩ : ScatterDims (shape2 R C) (shape1 1) (shape2 A C)) (ix2 a x) 0 = a.val := rfl
  have w1 : ScatterDims.window (⟨[0, 1], [], [0], v, wf⟩ : ScatterDims (shape2 R C) (shape1 1) (shape2 A C)) (ix2 a x) 1 = x.val := rfl
  rw [show (ix2 r y : (shape2 R C).Idx) = ValueIdx.ix2 r y from by funext z; fin_cases z <;> rfl, resultIdx?_ix2, h0, h1, w0, w1]
  omega

/-- Rows written at a start row, read at an element: update row `r - k` where there is one, else the operand. -/
theorem scatter_rows {α : Type} {R A C : Nat} (d : ScatterDims (shape2 R C) (shape1 1) (shape2 A C)) (hu : d.updateWindowDims = [0, 1])
    (hi : d.insertedWindowDims = []) (hs : d.scatterDimsToOperandDims = [0]) (idx : IVec (shape1 1) 32) (k : Nat)
    (hk : ∀ z, (idx z).toInt = k) (x0 : (shape2 R C).Idx → α) (upd : (shape2 A C).Idx → α) (r : Fin R) (y : Fin C) :
    Host.scatter d (fun _ b => b) x0 idx upd (ix2 r y)
      = if h : k ≤ r.val ∧ r.val - k < A then upd (ix2 ⟨r.val - k, h.2⟩ y) else x0 (ix2 r y) := by
  have hl := lands_rows d hu hi hs idx k hk
  have every : ∀ z : (shape2 A C).Idx, ∃ (a : Fin A) (x : Fin C), z = ix2 a x := fun z =>
    ⟨z 0, z 1, by funext q; fin_cases q <;> rfl⟩
  split
  · next h =>
    refine scatter_set_hit d x0 idx upd _ _ (fun z hz => ?_) (ix2 ⟨r.val - k, h.2⟩ y) ((hl _ _ _ _).2 ⟨?_, rfl⟩)
    · obtain ⟨a, x, rfl⟩ := every z
      obtain ⟨ha, rfl⟩ := (hl _ _ _ _).1 hz
      exact congrArg upd (congrArg (fun q => ix2 q x) (Fin.ext (by show a.val = r.val - k; omega)))
    · show (k : Int) + ((r.val - k : Nat) : Int) = r.val
      omega
  · next h =>
    refine scatter_set_miss d x0 idx upd _ fun z hz => h ?_
    obtain ⟨a, x, rfl⟩ := every z
    obtain ⟨ha, -⟩ := (hl _ _ _ _).1 hz
    have := a.isLt
    constructor <;> omega

/-- An entry of the table of biases: the expert biases in rows 0 to 7, the general ones in rows 8 and 9, zero below. -/
def bias (be : (shape2 8 1024).Idx → EReal) (bg : (shape2 2 1024).Idx → EReal) (j : Fin 16) (y : Fin 1024) : EReal :=
  if h : 8 ≤ j.val ∧ j.val - 8 < 2 then bg (ix2 ⟨j.val - 8, h.2⟩ y)
  else if h : 0 ≤ j.val ∧ j.val - 0 < 8 then be (ix2 ⟨j.val - 0, h.2⟩ y) else 0

open Cert.KernelIdeal Cert.KernelIdeal.Gen in
/-- The table of biases as the region finds it. -/
theorem table (m : (ℓ : Loc nD τ sig) → Buf (Elt Ideal) ℓ) (c : Dev nD) (j : Fin 16) (y : Fin 1024) :
    (V m c main_v5 : FVec Ideal S16x1024 .f32) (ix2 j y)
      = bias (m ((c : Thread nD τ).loc main_arg4)) (m ((c : Thread nD τ).loc main_arg6)) j y := by
  have e : (V m c main_v5 : FVec Ideal S16x1024 .f32)
      = Host.scatter scatter_S16x1024_S1_S2x1024_01_n_0_0 (fun _ b => b)
          (Host.scatter scatter_S16x1024_S1_S8x1024_01_n_0_0 (fun _ b => b)
            (broadcastInDim S16x1024 ![] bcast_S_S16x1024 (constant (F := Ideal) S_ .f32 0x00000000#32))
            (broadcastInDim S1 ![] bcast_S_S1 (constantI S_ 32 0#32)) (m ((c : Thread nD τ).loc main_arg4)))
          (broadcastInDim S1 ![] bcast_S_S1 (constantI S_ 32 8#32)) (m ((c : Thread nD τ).loc main_arg6)) := by
    unfold V V0 hostOps0
    simp only [List.flatten_cons, List.flatten_nil, List.append_nil]
    after_results
  rw [e]
  have z : (broadcastInDim S16x1024 ![] bcast_S_S16x1024 (constant (F := Ideal) S_ .f32 0x00000000#32)) (ix2 j y) = (0 : EReal) := by
    pointwise []
  rw [scatter_rows (R := 16) (A := 2) (C := 1024) scatter_S16x1024_S1_S2x1024_01_n_0_0 rfl rfl rfl _ 8 (fun _ => by exact (by decide : (8#32).toInt = 8)) _ _ j y,
    scatter_rows (R := 16) (A := 8) (C := 1024) scatter_S16x1024_S1_S8x1024_01_n_0_0 rfl rfl rfl _ 0 (fun _ => by exact (by decide : (0#32).toInt = 0)) _ _ j y, z]
  rfl

open Cert.KernelIdeal Cert.KernelIdeal.Gen in
/-- The flattened curves as the region finds them: the curves in another shape. -/
theorem flattened (m : (ℓ : Loc nD τ sig) → Buf (Elt Ideal) ℓ) (c : Dev nD) :
    (V m c main_v0 : FVec Ideal S2048x1536 .f32)
      = shapeCast S2048x1536 (m ((c : Thread nD τ).loc main_arg0)) shapeCasts_S32x64x3x512_S2048x1536 := by
  unfold V V0 hostOps0
  simp only [List.flatten_cons, List.flatten_nil, List.append_nil]
  after_results
  rfl

/-- The contribution of the biases to one output entry: the rows of the table weighted by the gates, the two general
    rows by one, the others by zero. -/
theorem bias_sum (g : Fin 8 → EReal) (be : (shape2 8 1024).Idx → EReal) (bg : (shape2 2 1024).Idx → EReal) (y : Fin 1024) :
    (∑ j : Fin 16, (if h : j.val < 8 then g ⟨j.val, h⟩ else if h : j.val - 8 < 2 then (1 : EReal) else 0) * bias be bg j y)
      = ∑ e, g e * be (ix2 e y) + (bg (ix2 0 y) + bg (ix2 1 y)) := by
  rw [Fin.sum_univ_add (a := 8) (b := 8) (fun j : Fin 16 => _)]
  refine congrArg₂ (· + ·) (Finset.sum_congr rfl fun e _ => ?_) ?_
  · have := e.isLt
    simp only [Fin.val_castAdd, this, dite_true, bias]
    rw [dif_neg (by omega), dif_pos (by omega)]
    rfl
  · simp [Fin.sum_univ_eight, bias, Fin.natAdd]

end Cert.Moe
end
-- ==== Proof.Moe.Payload.lean ====
module

public import proofs.«01_k».proof.Proof.Gen.KernelIdeal.Frame
public import proofs.«01_k».proof.Proof.Moe.Gate
public import proofs.«01_k».proof.Proof.Moe.Bias
public import Idealize.ShloMosaic.Lib.Pipeline.ValueKit
public import Idealize.ShloMosaic.Lib.Pointwise

/-!
# What one block computes

Each value the kernel stores, read at one entry over the extended reals.
-/

@[expose] public section
set_option maxRecDepth 16384
noncomputable section
open Idealize.ShloMosaic Idealize.ShloMosaic.TcCoe

namespace Cert.Moe
open Cert.KernelIdeal Cert.KernelIdeal.Gen

/-- The batch row that a row of the flattened curves belongs to. -/
abbrev batch (r : Fin 2048) : Fin 32 := ⟨r.val / 64, by have := r.isLt; omega⟩

/-- The gate of expert `e` for flattened row `r`, from the logits and the masks. -/
def rowGate (l : FVec Ideal S32x8 .f32) (k : IVec S32x8 32) (r : Fin 2048) (e : Fin 8) : EReal :=
  gate (fun x => l (ix2 (batch r) x)) (fun x => k (ix2 (batch r) x)) e

/-- The stored table of weights: the eight gates, two ones, zeros. -/
theorem grow_at (l : FVec Ideal S32x8 .f32) (k : IVec S32x8 32) (r : Fin 2048) (q : Fin 16) :
    k0_pay1 (F := Ideal) (k0_pay7 l k) (ix2 r q)
      = if h : q.val < 8 then rowGate l k r ⟨q.val, h⟩ else if h : q.val - 8 < 2 then (1 : EReal) else 0 := by
  have e : k0_pay1 (F := Ideal) (k0_pay7 l k) (ix2 r q) = k0_pay7 (F := Ideal) l k (ix2 r q) := by pointwise [k0_pay1]
  rw [e]
  pointwise [k0_pay7]
  rfl

/-- The stored curves are the curves. -/
theorem copy_at (x : FVec Ideal S2048x1536 .f32) (r : Fin 2048) (k : Fin 1536) :
    k0_pay6 (F := Ideal) x (ix2 r k) = x (ix2 r k) := by pointwise [k0_pay6]

/-- One expert's weighted product: the gate of the grid point's expert times a row of the product. -/
theorem term_at (i : grid0.Coords) (x : FVec Ideal S2048x1536 .bf16) (w : FVec Ideal S1x1536x512 .f32) (g : FVec Ideal S2048x8 .f32)
    (e : Fin 8) (he : (i 1).val = e.val) (r : Fin 2048) (y : Fin 512) :
    k0_pay2 (F := Ideal) i x w g (ix2 r y) = g (ix2 r e) * ∑ k : Fin 1536, x (ix2 r k) * w (ix3 0 k y) := by
  pointwise [k0_pay2]
  rw [he]
  refine congrArg (· * _) ?_
  rw [Finset.sum_eq_single e]
  · simp [Scalar.select, IntOp.cmpi]
  · intro b _ hb
    have : ¬(BitVec.ofNat 32 b.val = BitVec.ofNat 32 e.val) := by
      intro h
      have h' := congrArg BitVec.toNat h
      have := b.isLt
      have := e.isLt
      simp only [BitVec.toNat_ofNat] at h'
      exact hb (Fin.ext (by omega))
    simp [Scalar.select, IntOp.cmpi, beq_eq_false_iff_ne.2 this]
  · intro h; exact absurd (Finset.mem_univ e) h

/-- The first expert's point starts the accumulator: the biases' contribution and the expert's term. -/
theorem start_at (i : grid0.Coords) (x : FVec Ideal S2048x1536 .bf16) (w : FVec Ideal S1x1536x512 .f32) (g : FVec Ideal S2048x8 .f32)
    (a : FVec Ideal S2048x16 .f32) (b : FVec Ideal S16x512 .f32) (r : Fin 2048) (y : Fin 512) :
    k0_pay3 (F := Ideal) i x w g a b (ix2 r y)
      = (∑ k : Fin 16, a (ix2 r k) * b (ix2 k y)) + (show EReal from k0_pay2 (F := Ideal) i x w g (ix2 r y)) := by
  pointwise [k0_pay3]

/-- A later expert's point adds the expert's term. -/
theorem add_at (i : grid0.Coords) (x : FVec Ideal S2048x1536 .bf16) (w : FVec Ideal S1x1536x512 .f32) (g : FVec Ideal S2048x8 .f32)
    (a : FVec Ideal S2048x512 .bf16) (r : Fin 2048) (y : Fin 512) :
    k0_pay4 (F := Ideal) i x w g a (ix2 r y) = a (ix2 r y) + (show EReal from k0_pay2 (F := Ideal) i x w g (ix2 r y)) := by
  pointwise [k0_pay4]

/-- The last point adds the two general experts at once: one product with the sum of their weights. -/
theorem last_at (w0 w1 : FVec Ideal S1x1536x512 .f32) (x : FVec Ideal S2048x1536 .bf16) (a : FVec Ideal S2048x512 .bf16)
    (r : Fin 2048) (y : Fin 512) :
    k0_pay5 (F := Ideal) w0 w1 x a (ix2 r y)
      = a (ix2 r y) + ∑ k : Fin 1536, x (ix2 r k) * (w0 (ix3 0 k y) + w1 (ix3 0 k y)) := by
  pointwise [k0_pay5]

end Cert.Moe
end
-- ==== Proof.Moe.State.lean ====
module

public import proofs.«01_k».proof.Proof.Gen.KernelIdeal.Frame
public import proofs.«01_k».proof.Proof.Moe.Gate
public import proofs.«01_k».proof.Proof.Moe.Bias
public import proofs.«01_k».proof.Proof.Moe.Payload
public import Idealize.ShloMosaic.Lib.Pipeline.ValueKit
public import Idealize.ShloMosaic.Lib.Pipeline.ReadBack
public import Idealize.ShloMosaic.Lib.Pointwise

/-!
# What the scratch buffers hold

The grid runs over two column tiles and, in each, over nine steps: one per expert and one for the two general experts.
The curves and the table of weights are stored at the first point and kept; the accumulator holds, after expert `n`'s
step, the biases' contribution and the terms of the experts up to `n`.
-/

@[expose] public section
set_option maxRecDepth 16384
noncomputable section
open Idealize.ShloMosaic Idealize.ShloMosaic.TcCoe

namespace Cert.Moe
open Cert.KernelIdeal Cert.KernelIdeal.Gen

variable (m : (ℓ : Loc nD τ sig) → Buf (Elt Ideal) ℓ) (c : Dev nD)

/-- The block indices of the windows at each grid point. -/
theorem idx : ∀ t : Fin cfg0.N, win0_0.index t = ![0, 0]
    ∧ win0_1.index t = ![0, 0]
    ∧ win0_2.index t = ![0, 0]
    ∧ win0_3.index t = ![min (t.val % 9) 7, 0, t.val / 9]
    ∧ win0_4.index t = ![0, 0, t.val / 9]
    ∧ win0_5.index t = ![0, t.val / 9]
    ∧ win0_6.index t = ![0, t.val / 9] :=
  (by decide +kernel : ∀ t : Fin grid0.N, _)

/-- The second grid coordinate is the step within the column tile. -/
theorem step : ∀ t : Fin cfg0.N, ((grid0.coords t) 1).val = t.val % 9 :=
  (by decide +kernel : ∀ t : Fin grid0.N, _)

/-- There are eighteen grid points. -/
theorem points (t : Fin cfg0.N) : t.val < 18 := t.isLt

/-- The column of the whole array that column `y` of the tile at point `t` is. -/
abbrev column (t : Fin cfg0.N) (y : Fin 512) : Fin 1024 := ⟨512 * (t.val / 9) + y.val, by have := points t; have := y.isLt; omega⟩

/-- The block of the logits is the whole array. -/
theorem blk0 (t : Fin cfg0.N) : iblk m c 0 t = m ((c : Thread nD τ).loc main_arg1) := by blk_ext! [iblk, V, idx t]
/-- The block of the masks is the whole array. -/
theorem blk1 (t : Fin cfg0.N) : iblk m c 1 t = m ((c : Thread nD τ).loc main_arg2) := by blk_ext! [iblk, V, idx t]
/-- The block of the flattened curves is the whole array. -/
theorem blk2 (t : Fin cfg0.N) : iblk m c 2 t = V m c main_v0 := by blk_ext! [iblk, idx t]

/-- An expert's weights at its step: the tile's columns of that expert. -/
theorem blk3 (t : Fin cfg0.N) (e : Fin 8) (he : t.val % 9 = e.val) (k : Fin 1536) (y : Fin 512) :
    (iblk m c 3 t : FVec Ideal S1x1536x512 .f32) (ix3 0 k y)
      = (m ((c : Thread nD τ).loc main_arg3) : FVec Ideal S8x1536x1024 .f32) (ix3 e k (column t y)) := by
  have := e.isLt
  rw [← V_main_arg3 m c]
  blk_point [iblk, idx t]

/-- The general experts' weights: the tile's columns of both. -/
theorem blk4 (t : Fin cfg0.N) (j : Fin 2) (k : Fin 1536) (y : Fin 512) :
    (iblk m c 4 t : FVec Ideal S2x1536x512 .f32) (ix3 j k y)
      = (m ((c : Thread nD τ).loc main_arg5) : FVec Ideal S2x1536x1024 .f32) (ix3 j k (column t y)) := by
  rw [← V_main_arg5 m c]
  blk_point [iblk, idx t]

/-- The table of biases: the tile's columns. -/
theorem blk5 (t : Fin cfg0.N) (j : Fin 16) (y : Fin 512) :
    (iblk m c 5 t : FVec Ideal S16x512 .f32) (ix2 j y) = (V m c main_v5 : FVec Ideal S16x1024 .f32) (ix2 j (column t y)) := by
  blk_point [iblk, idx t]

/-- The flattened curves at an entry. -/
def curve (r : Fin 2048) (k : Fin 1536) : EReal := (V m c main_v0 : FVec Ideal S2048x1536 .f32) (ix2 r k)

/-- The gate of expert `e` for flattened row `r`. -/
def gateOf (r : Fin 2048) (e : Fin 8) : EReal :=
  rowGate (m ((c : Thread nD τ).loc main_arg1)) (m ((c : Thread nD τ).loc main_arg2)) r e

/-- Expert `e`'s product at an entry. -/
def expert (r : Fin 2048) (x : Fin 1024) (e : Fin 8) : EReal :=
  ∑ k : Fin 1536, curve m c r k * (m ((c : Thread nD τ).loc main_arg3) : FVec Ideal S8x1536x1024 .f32) (ix3 e k x)

/-- An expert's bias at a column. -/
def expertBias (e : Fin 8) (x : Fin 1024) : EReal := (m ((c : Thread nD τ).loc main_arg4) : FVec Ideal S8x1024 .f32) (ix2 e x)

/-- A general expert's bias at a column. -/
def generalBias (j : Fin 2) (x : Fin 1024) : EReal := (m ((c : Thread nD τ).loc main_arg6) : FVec Ideal S2x1024 .f32) (ix2 j x)

/-- The contribution of the biases at an entry. -/
def biases (r : Fin 2048) (x : Fin 1024) : EReal :=
  ∑ e, gateOf m c r e * expertBias m c e x + (generalBias m c 0 x + generalBias m c 1 x)

/-- The term of the expert numbered `n`, zero when there is none. -/
def term (r : Fin 2048) (x : Fin 1024) (n : Nat) : EReal :=
  if h : n < 8 then gateOf m c r ⟨n, h⟩ * expert m c r x ⟨n, h⟩ else 0

/-- The table of weights the kernel stores at the first point. -/
abbrev weights : FVec Ideal S2048x16 .f32 :=
  k0_pay1 (F := Ideal) (k0_pay7 (m ((c : Thread nD τ).loc main_arg1)) (m ((c : Thread nD τ).loc main_arg2)))

/-- The first eight columns of the table of weights, as the kernel loads them. -/
abbrev gates : FVec Ideal S2048x8 .f32 :=
  View.ld (Val := Elt Ideal) (S := S2048x16) (e' := .f32) (weights m c) (Rect.unit ![0, 0] ![2048, 8] inb_S2048x16_S2048x8_0_0)

/-- The curves the kernel stores at the first point. -/
abbrev stored : FVec Ideal S2048x1536 .bf16 := k0_pay6 (F := Ideal) (V m c main_v0)

/-- The weights read through their first eight columns are the gates. -/
theorem gates_at (r : Fin 2048) (e : Fin 8) :
    gates m c (ix2 r e) = gateOf m c r e := by
  have h : gates m c (ix2 r e)
      = weights m c (ix2 r (⟨e.val, by have := e.isLt; omega⟩ : Fin 16)) := by
    pointwise [gates]
  rw [h, weights, grow_at, dif_pos e.isLt]
  rfl

/-- The expert's term at a point whose stored curves and weights are the right ones. -/
theorem term_eq (t : Fin cfg0.N) (h : t.val % 9 ≤ 7) (r : Fin 2048) (y : Fin 512) :
    (show EReal from k0_pay2 (F := Ideal) (grid0.coords t) (stored m c) (iblk m c 3 t)
        (gates m c) (ix2 r y))
      = term m c r (column t y) (t.val % 9) := by
  have h8 : t.val % 9 < 8 := by omega
  refine (term_at _ _ _ _ (⟨t.val % 9, h8⟩ : Fin 8) (step t) r y).trans ?_
  rw [gates_at, term, dif_pos h8]
  refine congrArg (_ * ·) (Finset.sum_congr rfl fun k _ => ?_)
  exact congrArg₂ (fun a b : EReal => a * b) (copy_at (V m c main_v0) r k) (blk3 m c t ⟨t.val % 9, h8⟩ rfl k y)

/-- What the scratch buffers hold after a point. -/
structure Holds (t : Fin cfg0.N) : Prop where
  curves : (outsAt0 m c t.val t.isLt).2.1 = stored m c
  weights : (outsAt0 m c t.val t.isLt).2.2.1 = weights m c
  acc : t.val % 9 ≤ 7 → ∀ (r : Fin 2048) (y : Fin 512), ((outsAt0 m c t.val t.isLt).2.2.2 (ix2 r y) : EReal)
    = biases m c r (column t y) + ∑ n ∈ Finset.range (t.val % 9 + 1), term m c r (column t y) n

/-- The accumulator after a tile's first step. -/
theorem acc_start (t : Fin cfg0.N) (h : t.val % 9 = 0) (r : Fin 2048) (y : Fin 512) :
    (k0_pay3 (F := Ideal) (grid0.coords t) (stored m c) (iblk m c 3 t)
        (gates m c) (weights m c) (iblk m c 5 t) (ix2 r y) : EReal)
      = biases m c r (column t y) + ∑ n ∈ Finset.range (t.val % 9 + 1), term m c r (column t y) n := by
  refine (start_at _ _ _ _ _ _ r y).trans ?_
  rw [term_eq m c t (by omega), h, Finset.sum_range_one]
  refine congrArg (· + _) ?_
  refine Eq.trans (Finset.sum_congr rfl fun j _ => ?_) (bias_sum (gateOf m c r) _ _ (column t y))
  rw [weights, grow_at, blk5, table]
  rfl

/-- The accumulator after a later expert's step. -/
theorem acc_add (t : Fin cfg0.N) (h : t.val % 9 ≤ 7) (h1 : 1 ≤ t.val % 9) (a : FVec Ideal S2048x512 .bf16) (r : Fin 2048) (y : Fin 512)
    (ha : a (ix2 r y) = biases m c r (column t y) + ∑ n ∈ Finset.range (t.val % 9), term m c r (column t y) n) :
    (k0_pay4 (F := Ideal) (grid0.coords t) (stored m c) (iblk m c 3 t)
        (gates m c) a (ix2 r y) : EReal)
      = biases m c r (column t y) + ∑ n ∈ Finset.range (t.val % 9 + 1), term m c r (column t y) n := by
  refine (add_at _ _ _ _ _ r y).trans ?_
  rw [term_eq m c t h, ha, Finset.sum_range_succ, add_assoc]

/-- The scratch buffers after every point. -/
theorem holds (n : Nat) (hn : n < 18) : Holds m c ⟨n, hn⟩ := by
  induction n with
  | zero =>
    have e := outsAt0_A m c ⟨0, hn⟩ rfl (Nat.zero_le 7) rfl (Nat.not_succ_le_zero 0) (by show ¬(0 = 8); omega)
    refine ⟨?_, ?_, fun _ r y => ?_⟩
    · rw [e]; frame_out; rw [blk2]
    · rw [e]; frame_out; rw [blk0, blk1]
    · refine Eq.trans ?_ (acc_start m c ⟨0, hn⟩ rfl r y)
      refine congrFun ?_ _
      rw [e]; frame_out
      rw [View.readCov_fill _ _ _ _ _ (by decide), blk0, blk1, blk2]
  | succ n ih =>
    have hp := ih (by omega)
    have hN : n + 1 < cfg0.N := hn
    by_cases h8 : (n + 1) % 9 = 8
    · have e := outsAt0_C m c ⟨n + 1, hn⟩ (by show ¬(n + 1) % 18 = 0; omega) (by show ¬(n + 1) % 9 ≤ 7; omega) h8
      refine ⟨?_, ?_, fun h => absurd h (by show ¬(n + 1) % 9 ≤ 7; omega)⟩
      · rw [e]; exact hp.curves
      · rw [e]; exact hp.weights
    · by_cases h0 : (n + 1) % 9 = 0
      · have e := outsAt0_D m c ⟨n + 1, hn⟩ (by show ¬(n + 1) % 18 = 0; omega) (by show (n + 1) % 9 ≤ 7; omega) h0
          (by show ¬1 ≤ (n + 1) % 9; omega) h8
        refine ⟨?_, ?_, fun _ r y => ?_⟩
        · rw [e]; exact hp.curves
        · rw [e]; exact hp.weights
        · refine Eq.trans ?_ (acc_start m c ⟨n + 1, hn⟩ h0 r y)
          refine congrFun ?_ _
          rw [e]; frame_out
          simp only [read_unread_whole]
          have h1 := hp.curves
          have h2 := hp.weights
          simp only [Nat.add_sub_cancel] at h1 h2 ⊢
          rw [h1, h2]
      · have e := outsAt0_B m c ⟨n + 1, hn⟩ (by show ¬(n + 1) % 18 = 0; omega) (by show (n + 1) % 9 ≤ 7; omega) h0
          (by show 1 ≤ (n + 1) % 9; omega) h8
        refine ⟨?_, ?_, fun _ r y => ?_⟩
        · rw [e]; exact hp.curves
        · rw [e]; exact hp.weights
        · refine Eq.trans ?_ (acc_add m c ⟨n + 1, hn⟩ (by show (n + 1) % 9 ≤ 7; omega) (by show 1 ≤ (n + 1) % 9; omega)
            (outsAt0 m c n (by omega)).2.2.2 r y ?_)
          · refine congrFun ?_ _
            rw [e]; frame_out
            simp only [read_unread_whole]
            have h1 := hp.curves
            have h2 := hp.weights
            simp only [Nat.add_sub_cancel] at h1 h2 ⊢
            rw [h1, h2]
          · refine (hp.acc (by show n % 9 ≤ 7; omega) r y).trans ?_
            have hc : column ⟨n, by omega⟩ y = column ⟨n + 1, hn⟩ y := Fin.ext (by show 512 * (n / 9) + y.val = 512 * ((n + 1) / 9) + y.val; omega)
            rw [hc, show (⟨n, by omega⟩ : Fin cfg0.N).val % 9 + 1 = (⟨n + 1, hn⟩ : Fin cfg0.N).val % 9 from by show n % 9 + 1 = (n + 1) % 9; omega]

end Cert.Moe
end
-- ==== Proof.Moe.Array.lean ====
module

public import proofs.«01_k».proof.Proof.Gen.KernelIdeal.Frame
public import proofs.«01_k».proof.Proof.Moe.State
public import Idealize.ShloMosaic.Lib.Pipeline.ValueKit
public import Idealize.ShloMosaic.Lib.Pipeline.ReadBack
public import Idealize.ShloMosaic.Lib.StableHlo.Run
public import Idealize.ShloMosaic.Lib.Claim
public import Idealize.ShloMosaic.Lib.Pointwise

/-!
# What the kernel's results hold

The output window is written back at each column tile's last step; the array is the accumulator after the eighth expert
with the two general experts' product added. The host reshapes it; the two other results are zero.
-/

@[expose] public section
set_option maxRecDepth 16384
noncomputable section
open Idealize.ShloMosaic Idealize.ShloMosaic.TcCoe Idealize.SL.Sem
open Idealize.ShloMosaic.Pipeline (Dat)

namespace Cert.Moe
open Cert.KernelIdeal Cert.KernelIdeal.Gen

variable (m : (ℓ : Loc nD τ sig) → Buf (Elt Ideal) ℓ) (c : Dev nD)

/-- A general expert's weight. -/
def generalWeight (j : Fin 2) (k : Fin 1536) (x : Fin 1024) : EReal :=
  (m ((c : Thread nD τ).loc main_arg5) : FVec Ideal S2x1536x1024 .f32) (ix3 j k x)

/-- The kernel's output at an entry. -/
def output (r : Fin 2048) (x : Fin 1024) : EReal :=
  biases m c r x + ∑ e, gateOf m c r e * expert m c r x e
    + ∑ k : Fin 1536, curve m c r k * (generalWeight m c 0 k x + generalWeight m c 1 k x)

/-- The output block at a tile's last step. -/
theorem block_at (t : Fin cfg0.N) (h : t.val % 9 = 8) (r : Fin 2048) (y : Fin 512) :
    ((outsAt0 m c t.val t.isLt).1 (ix2 r y) : EReal) = output m c r (column t y) := by
  have ht := points t
  have hp := holds m c (t.val - 1) (by omega)
  have h1 := hp.curves
  have ha := hp.acc (by show (t.val - 1) % 9 ≤ 7; omega) r y
  have hc : column ⟨t.val - 1, by omega⟩ y = column t y :=
    Fin.ext (by show 512 * ((t.val - 1) / 9) + y.val = 512 * (t.val / 9) + y.val; omega)
  rw [hc, show (⟨t.val - 1, by omega⟩ : Fin cfg0.N).val % 9 + 1 = 8 from by show (t.val - 1) % 9 + 1 = 8; omega] at ha
  rw [outsAt0_C m c t (by omega) (by omega) h]
  frame_out
  simp only [read_unread_whole]
  rw [show (outsAt0 m c (t.val - 1) _).2.1 = _ from h1]
  refine (last_at _ _ _ _ r y).trans ?_
  refine congrArg₂ (fun a b : EReal => a + b) (ha.trans ?_) (Finset.sum_congr rfl fun k _ => ?_)
  · rw [Finset.sum_range]
    refine congrArg (_ + ·) (Finset.sum_congr rfl fun e _ => ?_)
    rw [term, dif_pos e.isLt]
  · have e0 : View.ld (iblk m c 4 t) (Rect.unit ![0, 0, 0] ![1, 1536, 512] inb_S2x1536x512_S1x1536x512_0_0_0) (ix3 0 k y)
        = generalWeight m c 0 k (column t y) := by
      refine Eq.trans ?_ (blk4 m c t 0 k y)
      pointwise []
    have e1 : View.ld (iblk m c 4 t) (Rect.unit ![1, 0, 0] ![1, 1536, 512] inb_S2x1536x512_S1x1536x512_1_0_0) (ix3 0 k y)
        = generalWeight m c 1 k (column t y) := by
      refine Eq.trans ?_ (blk4 m c t 1 k y)
      pointwise []
    exact congrArg₂ (fun a b : EReal => a * b) (copy_at (V m c main_v0) r k) (congrArg₂ (fun a b : EReal => a + b) e0 e1)

/-- The kernel's output array. -/
def outArray : FVec Ideal S2048x1024 .f32 := fun i => output m c (i 0) (i 1)

/-- After the region the output array holds the output. -/
theorem final : (dats m 0 c).arrAt 6 cfg0.N = outArray m c := by
  refine (dats m 0 c).arrAt_eq_of_covers 6 _ (by decide +kernel) fun t hf y => ?_
  have h8 := (flush0_6 t).1 hf
  obtain ⟨r, z, rfl⟩ : ∃ (r : Fin 2048) (z : Fin 512), y = ix2 r z := ⟨y 0, y 1, by funext q; fin_cases q <;> rfl⟩
  have hb := block_at m c t h8 r z
  blk_simp
  rw [after0_6]
  refine hb.trans ?_
  have hidx := (idx t).2.2.2.2.2.2
  unfold outArray
  refine congrArg₂ (output m c) (Fin.ext ?_) (Fin.ext ?_)
  · blk_simp
    rw [hidx]
    show r.val = 0 * 2048 + r.val
    omega
  · blk_simp
    rw [hidx]
    show 512 * (t.val / 9) + z.val = t.val / 9 * 512 + z.val
    omega

/-- The first result: the output array in the result's shape. -/
theorem result0 : Pipeline.afterTail₀ cfgs (dats m) 0 (V0 m) [hostOps1] c main_v7
    = shapeCast S32x64x1024 (outArray m c) shapeCasts_S2048x1024_S32x64x1024 := by
  unfold Pipeline.afterTail₀ hostOps1
  simp only [List.flatten_cons, List.flatten_nil, List.append_nil]
  after_results
  rw [show Pipeline.withArrays (cfgs 0).spec c (V0 m c) (fun w => (dats m 0 c).arrAt w (cfgs 0).N) (Proc.devRef .tc main_v6) = outArray m c from
    (Pipeline.withArrays_arr (cfgs 0).spec (by decide +kernel) c (V0 m c) _ (6 : Fin 7)).trans (final m c)]
  rfl
/-- The second result is zero. -/
theorem result1 : Pipeline.afterTail₀ cfgs (dats m) 0 (V0 m) [hostOps1] c main_cst_1 = constant (F := Ideal) S_ .f32 0x00000000#32 := by
  unfold Pipeline.afterTail₀ hostOps1
  simp only [List.flatten_cons, List.flatten_nil, List.append_nil]
  after_results
/-- The third result is zero. -/
theorem result2 : Pipeline.afterTail₀ cfgs (dats m) 0 (V0 m) [hostOps1] c main_cst_2 = constant (F := Ideal) S_ .f32 0x00000000#32 := by
  unfold Pipeline.afterTail₀ hostOps1
  simp only [List.flatten_cons, List.flatten_nil, List.append_nil]
  after_results

end Cert.Moe
end
-- ==== Proof.Moe.Algebra.lean ====
/- The equation between the two programs at one output element: adding the experts' biases through the
   gates beforehand, and summing the two general weights before the product, gives the same number. -/
module

public import proofs.«01_k».proof.Proof.Moe.Gate

@[expose] public section

noncomputable section

open Idealize.ShloMosaic
open scoped BigOperators

namespace Cert.Moe

/-- A nonnegative real factor distributes over any sum of two extended reals. -/
theorem real_mul_add {g : EReal} (hg : ∃ r : ℝ, 0 ≤ r ∧ g = (r : EReal)) (a b : EReal) : g * (a + b) = g * a + g * b := by
  obtain ⟨r, hr, rfl⟩ := hg
  exact EReal.left_distrib_of_nonneg_of_ne_top (by exact_mod_cast hr) (EReal.coe_ne_top r) a b

/-- Products with finite factors distribute over the sum of the two general weights. -/
theorem sum_mul_add_finite {n : ℕ} (x w₀ w₁ : Fin n → EReal) (hx : ∀ k, ∃ r : ℝ, x k = (r : EReal))
    (h₀ : ∀ k, ∃ r : ℝ, w₀ k = (r : EReal)) (h₁ : ∀ k, ∃ r : ℝ, w₁ k = (r : EReal)) :
    ∑ k, x k * (w₀ k + w₁ k) = ∑ k, x k * w₀ k + ∑ k, x k * w₁ k := by
  rw [← Finset.sum_add_distrib]
  refine Finset.sum_congr rfl fun k _ => ?_
  obtain ⟨a, ha⟩ := hx k
  obtain ⟨b, hb⟩ := h₀ k
  obtain ⟨c, hc⟩ := h₁ k
  rw [ha, hb, hc, ← EReal.coe_add, ← EReal.coe_mul, ← EReal.coe_mul, ← EReal.coe_mul, ← EReal.coe_add, mul_add]

/-- The kernel's order of summation (gated biases, general biases, gated expert outputs, general output of
    the summed weights) equals the reference's (each expert with its bias, each general output with its). -/
theorem combine (g y b : Fin 8 → EReal) (b₀ b₁ G G₀ G₁ : EReal) (hg : ∀ e, ∃ r : ℝ, 0 ≤ r ∧ g e = (r : EReal))
    (hG : G = G₀ + G₁) :
    ((∑ e, g e * b e + (b₀ + b₁)) + ∑ e, g e * y e) + G = (G₁ + b₁) + ((G₀ + b₀) + ∑ e, g e * (y e + b e)) := by
  rw [hG, Finset.sum_congr rfl fun e _ => real_mul_add (hg e) (y e) (b e), Finset.sum_add_distrib]
  ac_rfl

end Cert.Moe

end
-- ==== Proof.Moe.Reference.lean ====
module

public import proofs.«01_k».proof.Proof.Gen.ReferenceIdeal.Run
public import proofs.«01_k».proof.Proof.Moe.Gate
public import Idealize.ShloMosaic.Lib.Pointwise

/-!
# What the reference computes

The reference's first result at one entry, as a function of the seven argument arrays.
-/

@[expose] public section
set_option maxRecDepth 16384
noncomputable section
open Idealize.ShloMosaic Idealize.ShloMosaic.TcCoe Idealize.SL.Sem

namespace Cert.Moe

section Plain

variable (curves : FVec Ideal ⟨4, ![32, 64, 3, 512]⟩ .f32) (logits : FVec Ideal ⟨2, ![32, 8]⟩ .f32) (masks : IVec ⟨2, ![32, 8]⟩ 32)
  (we : FVec Ideal ⟨3, ![8, 1536, 1024]⟩ .f32) (be : FVec Ideal ⟨2, ![8, 1024]⟩ .f32)
  (wg : FVec Ideal ⟨3, ![2, 1536, 1024]⟩ .f32) (bg : FVec Ideal ⟨2, ![2, 1024]⟩ .f32)

/-- Feature `k` of the flattened curve of position `l` in batch row `b`. -/
def feature (b : Fin 32) (l : Fin 64) (k : Fin 1536) : EReal :=
  curves (ix4 b l (⟨k.val / 512, by have := k.isLt; omega⟩ : Fin 3) (⟨k.val % 512, Nat.mod_lt _ (by decide)⟩ : Fin 512))

/-- A general expert's output without its bias. -/
def general (b : Fin 32) (l : Fin 64) (x : Fin 1024) (j : Fin 2) : EReal :=
  ∑ k : Fin 1536, wg (ix3 j k x) * feature curves b l k

/-- An expert's output without its bias. -/
def special (b : Fin 32) (l : Fin 64) (x : Fin 1024) (e : Fin 8) : EReal :=
  ∑ k : Fin 1536, we (ix3 e k x) * feature curves b l k

/-- The gate of expert `e` in batch row `b`. -/
def gateAt (b : Fin 32) (e : Fin 8) : EReal := gate (fun x => logits (ix2 b x)) (fun x => masks (ix2 b x)) e

/-- The layer's output: the two general experts and the gated experts, each with its bias. -/
def plain (b : Fin 32) (l : Fin 64) (x : Fin 1024) : EReal :=
  (general curves wg b l x 1 + bg (ix2 1 x))
    + ((general curves wg b l x 0 + bg (ix2 0 x))
      + ∑ e, gateAt logits masks b e * (special curves we b l x e + be (ix2 e x)))

end Plain

open Cert.ReferenceIdeal Cert.ReferenceIdeal.Gen Cert.ReferenceIdeal.Value

variable (m : (ℓ : Loc nD τ sig) → Buf (Elt Ideal) ℓ) (c : Dev nD)

/-- The reference's first result is the layer's output. -/
theorem reference_at (b : Fin 32) (l : Fin 64) (x : Fin 1024) :
    (res_out0 m c : FVec Ideal S32x64x1024 .f32) (ix3 b l x)
      = plain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b l x := by
  unfold res_out0
  pointwise [res_main_v42]
  have e : ∀ (s : EReal) (h : (⟨2, ![32, 8]⟩ : Shape).ReducesTo [1] S32) (v : FVec Ideal S32x8 .f32),
      Finset.fold max s v {i | h.drop i = ix1 b} = Finset.univ.fold max s fun k : Fin 8 => v (ix2 b k) :=
    fun s h v => Shape.ReducesTo.fold_fiber_r2_a1 h (ix1 b) max s v
  have e' := e (Ideal.ofBits FTy.f32 4286578688#32) reducesTo_S32x8_S32_d1 (m ((c : Thread nD τ).loc main_arg1))
  erw [e']
  rfl

end Cert.Moe
end
-- ==== Proof.Moe.Equation.lean ====
module

public import proofs.«01_k».proof.Defs
public import proofs.«01_k».proof.Proof.Moe.Array
public import proofs.«01_k».proof.Proof.Moe.Algebra
public import proofs.«01_k».proof.Proof.Moe.Reference
public import Idealize.ShloMosaic.Lib.ReduceAll

/-!
# The equation

When every curve sample and every general weight is finite, the kernel's output is the reference's.
-/

@[expose] public section
set_option maxRecDepth 16384
noncomputable section
open Idealize.ShloMosaic Idealize.ShloMosaic.TcCoe Idealize.SL.Sem

namespace Cert.Moe
open Cert.KernelIdeal Cert.KernelIdeal.Gen

/-- The shape relations the precondition's operations take. -/
theorem preFacts : Cert.Pre_finite_curves_and_general.Facts :=
  ⟨by decide, by decide, by decide, by decide, by decide⟩

/-- An extended real whose absolute value compares below infinity is a real number. -/
theorem real_of_lt (x : EReal)
    (h : FloatOps.cmpf (F := Ideal) (φ := .f32) .olt (FloatOps.absf (F := Ideal) (φ := .f32) x) (Ideal.ofBits .f32 0x7F800000#32) = 1#1) :
    ∃ r : ℝ, x = (r : EReal) := by
  have inf : Ideal.ofBits .f32 0x7F800000#32 = (⊤ : EReal) := by simp [Ideal.ofBits, Ideal.ieee]
  rw [inf] at h
  induction x with
  | bot => simp [FloatOps.cmpf, FloatOps.absf, Ideal.cmp] at h
  | coe r => exact ⟨r, rfl⟩
  | top => simp [FloatOps.cmpf, FloatOps.absf, Ideal.cmp] at h

variable (m : (ℓ : Loc nD τ sig) → Buf (Elt Ideal) ℓ) (c : Dev nD)

/-- The precondition: every curve sample and every general weight is a real number. -/
theorem finite [Cert.Pre_finite_curves_and_general.Facts] (h : Cert.Pre_KernelIdeal_finite_curves_and_general m) :
    (∀ i, ∃ r : ℝ, (m ((c : Thread nD τ).loc main_arg0) : FVec Ideal S32x64x3x512 .f32) i = (r : EReal))
      ∧ ∀ i, ∃ r : ℝ, (m ((c : Thread nD τ).loc main_arg5) : FVec Ideal S2x1536x1024 .f32) i = (r : EReal) := by
  have h0 := congrFun (h c) ix0
  dsimp only [Cert.Pre_finite_curves_and_general.fn, andi] at h0
  obtain ⟨ha, hb⟩ := IntOp.andi_eq_one.1 h0
  have : Subsingleton Cert.Pre_finite_curves_and_general.S_.Idx := ⟨fun a b => funext fun q => q.elim0⟩
  exact ⟨fun i => real_of_lt _ (Host.reduce_andi_all _ _ _ _ _ ha i), fun i => real_of_lt _ (Host.reduce_andi_all _ _ _ _ _ hb i)⟩

/-- The curves reshaped to rows, read at row `64 b + l` and feature `k`. -/
theorem reshaped (a : FVec Ideal S32x64x3x512 .f32) (b : Fin 32) (l : Fin 64) (k : Fin 1536) :
    shapeCast S2048x1536 a shapeCasts_S32x64x3x512_S2048x1536
        (ix2 (⟨64 * b.val + l.val, by have := b.isLt; have := l.isLt; omega⟩ : Fin 2048) k)
      = feature a b l k := by
  unfold feature
  have hk := k.isLt
  pointwise []

/-- A flattened row's feature is the curve's. -/
theorem curve_eq (b : Fin 32) (l : Fin 64) (k : Fin 1536) :
    curve m c (⟨64 * b.val + l.val, by have := b.isLt; have := l.isLt; omega⟩ : Fin 2048) k
      = feature (m ((c : Thread nD τ).loc main_arg0)) b l k := by
  rw [curve, flattened]
  exact reshaped _ b l k

/-- A flattened row as a row of the 2048. -/
abbrev row (b : Fin 32) (l : Fin 64) : Fin 2048 := ⟨64 * b.val + l.val, by have := b.isLt; have := l.isLt; omega⟩

/-- The gate of a flattened row is its batch row's gate. -/
theorem gate_eq (b : Fin 32) (l : Fin 64) (e : Fin 8) :
    gateOf m c (row b l) e = gateAt (m ((c : Thread nD τ).loc main_arg1)) (m ((c : Thread nD τ).loc main_arg2)) b e := by
  have h : batch (row b l) = b := Fin.ext (by show (64 * b.val + l.val) / 64 = b.val; have := l.isLt; omega)
  unfold gateOf rowGate
  rw [h]
  rfl

/-- An expert's product at a flattened row. -/
theorem expert_eq (b : Fin 32) (l : Fin 64) (x : Fin 1024) (e : Fin 8) :
    expert m c (row b l) x e
      = special (m ((c : Thread nD τ).loc main_arg0)) (m ((c : Thread nD τ).loc main_arg3)) b l x e :=
  Finset.sum_congr rfl fun k _ => (congrArg (· * _) (curve_eq m c b l k)).trans (mul_comm _ _)

/-- A general expert's product at a flattened row. -/
theorem general_eq (b : Fin 32) (l : Fin 64) (x : Fin 1024) (j : Fin 2) :
    ∑ k : Fin 1536, curve m c (row b l) k * generalWeight m c j k x
      = general (m ((c : Thread nD τ).loc main_arg0)) (m ((c : Thread nD τ).loc main_arg5)) b l x j :=
  Finset.sum_congr rfl fun k _ => (congrArg (· * _) (curve_eq m c b l k)).trans (mul_comm _ _)

/-- The kernel's output at a flattened row is the layer's output, when the curves and general weights are finite. -/
theorem output_eq [Cert.Pre_finite_curves_and_general.Facts] (h : Cert.Pre_KernelIdeal_finite_curves_and_general m)
    (b : Fin 32) (l : Fin 64) (x : Fin 1024) :
    output m c (row b l) x
      = plain (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b l x := by
  obtain ⟨h0, h5⟩ := finite m c h
  have hG := sum_mul_add_finite (curve m c (row b l)) (fun k => generalWeight m c 0 k x) (fun k => generalWeight m c 1 k x)
    (fun k => by rw [curve_eq]; exact h0 _) (fun k => h5 _) (fun k => h5 _)
  rw [general_eq, general_eq] at hG
  have := combine (gateOf m c (row b l)) (expert m c (row b l) x) (fun e => expertBias m c e x)
    (generalBias m c 0 x) (generalBias m c 1 x) _ _ _ (fun e => gate_real _ _ e) hG
  refine this.trans ?_
  unfold plain
  refine congrArg (_ + ·) (congrArg (_ + ·) (Finset.sum_congr rfl fun e _ => ?_))
  rw [gate_eq, expert_eq]
  rfl

/-- A rows-by-columns array reshaped to positions, read at batch row `b` and position `l`. -/
theorem unflat (a : FVec Ideal S2048x1024 .f32) (b : Fin 32) (l : Fin 64) (x : Fin 1024) :
    shapeCast S32x64x1024 a shapeCasts_S2048x1024_S32x64x1024 (ix3 b l x) = a (ix2 (row b l) x) := by
  have e : row b l = ⟨b.val * 64 + l.val, by have := b.isLt; have := l.isLt; omega⟩ :=
    Fin.ext (by show 64 * b.val + l.val = b.val * 64 + l.val; omega)
  rw [e]
  pointwise []

/-- The two programs' first results are equal when the arguments agree and are finite where it matters. -/
theorem results_eq [Cert.Pre_finite_curves_and_general.Facts] (h : Cert.Pre_KernelIdeal_finite_curves_and_general m)
    (m' : (ℓ : Loc Cert.ReferenceIdeal.nD Cert.ReferenceIdeal.τ Cert.ReferenceIdeal.sig) → Buf (Elt Ideal) ℓ)
    (h0 : m' ((c : Thread Cert.ReferenceIdeal.nD Cert.ReferenceIdeal.τ).loc Cert.ReferenceIdeal.main_arg0) = m ((c : Thread nD τ).loc main_arg0))
    (h1 : m' ((c : Thread Cert.ReferenceIdeal.nD Cert.ReferenceIdeal.τ).loc Cert.ReferenceIdeal.main_arg1) = m ((c : Thread nD τ).loc main_arg1))
    (h2 : m' ((c : Thread Cert.ReferenceIdeal.nD Cert.ReferenceIdeal.τ).loc Cert.ReferenceIdeal.main_arg2) = m ((c : Thread nD τ).loc main_arg2))
    (h3 : m' ((c : Thread Cert.ReferenceIdeal.nD Cert.ReferenceIdeal.τ).loc Cert.ReferenceIdeal.main_arg3) = m ((c : Thread nD τ).loc main_arg3))
    (h4 : m' ((c : Thread Cert.ReferenceIdeal.nD Cert.ReferenceIdeal.τ).loc Cert.ReferenceIdeal.main_arg4) = m ((c : Thread nD τ).loc main_arg4))
    (h5 : m' ((c : Thread Cert.ReferenceIdeal.nD Cert.ReferenceIdeal.τ).loc Cert.ReferenceIdeal.main_arg5) = m ((c : Thread nD τ).loc main_arg5))
    (h6 : m' ((c : Thread Cert.ReferenceIdeal.nD Cert.ReferenceIdeal.τ).loc Cert.ReferenceIdeal.main_arg6) = m ((c : Thread nD τ).loc main_arg6)) :
    (Cert.ReferenceIdeal.Value.res_out0 m' c : FVec Ideal S32x64x1024 .f32)
      = shapeCast S32x64x1024 (outArray m c) shapeCasts_S2048x1024_S32x64x1024 := by
  funext i
  obtain ⟨b, l, x, rfl⟩ : ∃ (b : Fin 32) (l : Fin 64) (x : Fin 1024), i = ix3 b l x :=
    ⟨i 0, i 1, i 2, by funext q; fin_cases q <;> rfl⟩
  refine (reference_at m' c b l x).trans ?_
  rw [h0, h1, h2, h3, h4, h5, h6, unflat]
  exact (output_eq m c h b l x).symm

end Cert.Moe
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Moe.Equation
public import Idealize.ShloMosaic.Adequacy
public import Idealize.ShloMosaic.Init
public import Idealize.ShloMosaic.Lib.Claim

/-!
# The certificate

The frame claims come from the runs of the three programs; the value claim joins the kernel's run, the
reference's run and the equation between their first results.
-/

@[expose] public section
set_option maxRecDepth 16384
noncomputable section

namespace Cert.Proof

open Idealize.ShloMosaic Idealize.ShloMosaic.TcCoe Idealize.SL.Sem

/-- The kernel over machine words runs to the end, leaves its arguments unchanged and every counter at zero. -/
theorem kernel_frame : Cert.quiescent_Kernel := fun m g _ => Cert.Kernel.Gen.frame m g

/-- The kernel over the extended reals runs to the end, leaves its arguments unchanged and every counter at zero. -/
theorem ideal_frame : Cert.quiescent_KernelIdeal := fun m g _ => Cert.KernelIdeal.Gen.frame m g

/-- The same of memories that satisfy the precondition. -/
theorem ideal_frame_pre [Cert.Pre_finite_curves_and_general.Facts] :
    Cert.quiescent_KernelIdeal_pre_finite_curves_and_general := fun m g _ => Cert.KernelIdeal.Gen.frame m g

/-- The reference runs to the end, leaves its arguments unchanged and, having no semaphore, every counter at zero. -/
theorem reference_frame : Cert.quiescent_ReferenceIdeal := fun m g _ =>
  θ_run_mono (Cert.ReferenceIdeal.Value.run m g) fun r h =>
    ⟨fun c => (h c).2.2.2, sem_eq_zero_of_no_sems rfl r.2⟩

/-- The same of memories that satisfy the precondition. -/
theorem reference_frame_pre [Cert.Pre_finite_curves_and_general.Facts] :
    Cert.quiescent_ReferenceIdeal_pre_finite_curves_and_general := fun m g _ => reference_frame m g trivial

section Value
open Cert.KernelIdeal Cert.KernelIdeal.Gen Cert.Moe

variable (m : (ℓ : Loc nD τ sig) → Buf (Elt Ideal) ℓ) (g : Dev nD → PrngReg)

/-- The kernel's run: each of the three results, and the arguments unchanged. -/
theorem kernel_run : θ_run (defs (F := Ideal)) (onTc (τ := τ) (main (F := Ideal))) ⟨m, fun _ => 0, g⟩ (fun r => ∀ c : Dev nD,
    r.2.mem ((c.tc : Thread nD τ).loc main_v7) = shapeCast S32x64x1024 (outArray m c) shapeCasts_S2048x1024_S32x64x1024
    ∧ r.2.mem ((c.tc : Thread nD τ).loc main_cst_1) = constant (F := Ideal) S_ .f32 0x00000000#32
    ∧ r.2.mem ((c.tc : Thread nD τ).loc main_cst_2) = constant (F := Ideal) S_ .f32 0x00000000#32
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  θ_run_mono (θ_run_and (run_main m g) (unchanged m g)) fun _ h c =>
    ⟨((h.1 c).2 main_v7 (by decide)).trans (result0 m c), ((h.1 c).2 main_cst_1 (by decide)).trans (result1 m c),
      ((h.1 c).2 main_cst_2 (by decide)).trans (result2 m c), h.2 c⟩

end Value

/-- Over the extended reals the kernel and the reference return the same three results. -/
theorem algebraic [Cert.Pre_finite_curves_and_general.Facts] :
    Cert.algebraic_KernelIdeal_ReferenceIdeal_pre_finite_curves_and_general := by
  intro m g m' g' hpre hagree
  refine ⟨_, _, _, kernel_run m g, θ_run_mono (Cert.ReferenceIdeal.Value.run m' g') fun _ h c => ?_⟩
  obtain ⟨r0, r1, r2, args⟩ := h c
  obtain ⟨h0, h1, h2, h3, h4, h5, h6⟩ := hagree c
  exact ⟨r0.trans (Cert.Moe.results_eq m c hpre m' h0 h1 h2 h3 h4 h5 h6), r1, r2, args⟩

/-- Everything the certificate claims. -/
theorem claim : Cert.Claim :=
  ⟨Cert.Kernel.Gen.facts, Cert.KernelIdeal.Gen.facts, Cert.ReferenceIdeal.Gen.facts, Cert.Moe.preFacts,
    kernel_frame, ideal_frame, @ideal_frame_pre Cert.Moe.preFacts, reference_frame, @reference_frame_pre Cert.Moe.preFacts,
    trivial, @algebraic Cert.Moe.preFacts⟩

end Cert.Proof
end
